-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x768x1792 : Shape := ⟨3, ![1, 768, 1792]⟩
abbrev S1x768x1 : Shape := ⟨3, ![1, 768, 1]⟩
abbrev S1792x4096 : Shape := ⟨2, ![1792, 4096]⟩
abbrev S4096 : Shape := ⟨1, ![4096]⟩
abbrev S1x768x4096 : Shape := ⟨3, ![1, 768, 4096]⟩
abbrev S768x1792 : Shape := ⟨2, ![768, 1792]⟩
abbrev S768x1 : Shape := ⟨2, ![768, 1]⟩
abbrev S1x4096 : Shape := ⟨2, ![1, 4096]⟩
abbrev S768x4096 : Shape := ⟨2, ![768, 4096]⟩
abbrev S1792x512 : Shape := ⟨2, ![1792, 512]⟩
abbrev S1x512 : Shape := ⟨2, ![1, 512]⟩
abbrev S768x512 : Shape := ⟨2, ![768, 512]⟩

abbrev nBuf : Space → Nat
  | .hbm => 11
  | .vmem => 10
  | .smem => 0
  | _ => 0

abbrev bufTy : (tb : Table) → Fin (tcTables nBuf tb) → BufTy
  | .hbm, ⟨0, _⟩ => ⟨S1x768x1792, .fp8e4m3⟩
  | .hbm, ⟨1, _⟩ => ⟨S1x768x1, .f32⟩
  | .hbm, ⟨2, _⟩ => ⟨S1792x4096, .fp8e4m3⟩
  | .hbm, ⟨3, _⟩ => ⟨S4096, .f32⟩
  | .hbm, ⟨4, _⟩ => ⟨S1x768x4096, .bf16⟩
  | .hbm, ⟨5, _⟩ => ⟨S768x1792, .fp8e4m3⟩
  | .hbm, ⟨6, _⟩ => ⟨S768x1, .f32⟩
  | .hbm, ⟨7, _⟩ => ⟨S1x4096, .f32⟩
  | .hbm, ⟨8, _⟩ => ⟨S768x4096, .bf16⟩
  | .hbm, ⟨9, _⟩ => ⟨S768x4096, .bf16⟩
  | .hbm, ⟨10, _⟩ => ⟨S1x768x4096, .bf16⟩
  | .local _ .vmem, ⟨0, _⟩ => ⟨S768x1792, .fp8e4m3⟩
  | .local _ .vmem, ⟨1, _⟩ => ⟨S768x1, .f32⟩
  | .local _ .vmem, ⟨2, _⟩ => ⟨S1792x512, .fp8e4m3⟩
  | .local _ .vmem, ⟨3, _⟩ => ⟨S1792x512, .fp8e4m3⟩
  | .local _ .vmem, ⟨4, _⟩ => ⟨S1x512, .f32⟩
  | .local _ .vmem, ⟨5, _⟩ => ⟨S1x512, .f32⟩
  | .local _ .vmem, ⟨6, _⟩ => ⟨S768x512, .bf16⟩
  | .local _ .vmem, ⟨7, _⟩ => ⟨S768x512, .bf16⟩
  | .local _ .vmem, ⟨8, _⟩ => ⟨S768x512, .bf16⟩
  | .local _ .vmem, ⟨9, _⟩ => ⟨S768x512, .bf16⟩
  | _, _ => ⟨S1x768x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x768x1792 : Shape := ⟨3, ![1, 768, 1792]⟩
abbrev S1x768x1 : Shape := ⟨3, ![1, 768, 1]⟩
abbrev S1792x4096 : Shape := ⟨2, ![1792, 4096]⟩
abbrev S4096 : Shape := ⟨1, ![4096]⟩
abbrev S1x768x4096 : Shape := ⟨3, ![1, 768, 4096]⟩
abbrev S1x1x4096 : Shape := ⟨3, ![1, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S1x768x1792, .fp8e4m3⟩
  | .hbm, ⟨1, _⟩ => ⟨S1x768x1, .f32⟩
  | .hbm, ⟨2, _⟩ => ⟨S1792x4096, .fp8e4m3⟩
  | .hbm, ⟨3, _⟩ => ⟨S4096, .f32⟩
  | .hbm, ⟨4, _⟩ => ⟨S1x768x4096, .bf16⟩
  | .hbm, ⟨5, _⟩ => ⟨S1x768x4096, .bf16⟩
  | .local _ .vmem, ⟨0, _⟩ => ⟨S1x768x1792, .fp8e4m3⟩
  | .local _ .vmem, ⟨1, _⟩ => ⟨S1x768x1, .f32⟩
  | .local _ .vmem, ⟨2, _⟩ => ⟨S1792x4096, .fp8e4m3⟩
  | .local _ .vmem, ⟨3, _⟩ => ⟨S4096, .f32⟩
  | .local _ .vmem, ⟨4, _⟩ => ⟨S1x768x4096, .bf16⟩
  | .local _ .vmem, ⟨5, _⟩ => ⟨S1x768x4096, .bf16⟩
  | _, _ => ⟨S1x768x1792, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x768x1792 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/-
  The function that the kernel and the reference both compute over the extended reals, one element at a time, and the
  proof that the reference computes it.
-/
module

public import proofs.«01_k».proof.Proof.Gen.ReferenceIdeal.Value
public import Idealize.ShloMosaic.Lib.Pointwise

@[expose] public section

set_option maxRecDepth 16384

noncomputable section

namespace Cert.Proof.Spec

open Idealize.ShloMosaic
open Cert.ReferenceIdeal
open scoped BigOperators

/-- Row `i`, column `j` of the result: the product of row `i` of `x` with column `j` of `w`, scaled by the row's scale and
    then by the column's, plus the residual. -/
def elem (x : Vec Ideal S1x768x1792 .fp8e4m3) (xs : Vec Ideal S1x768x1 .f32) (w : Vec Ideal S1792x4096 .fp8e4m3)
    (ws : Vec Ideal S4096 .f32) (r : Vec Ideal S1x768x4096 .bf16) (i : Fin 768) (j : Fin 4096) : EReal :=
  ((∑ k : Fin 1792, (x (ix3 0 i k) : EReal) * (w (ix2 k j) : EReal)) * (xs (ix3 0 i 0) : EReal)) * (ws (ix1 j) : EReal)
    + (r (ix3 0 i j) : EReal)

/-- The reference's result, index by index, is `elem`. -/
theorem reference_apply (x : Vec Ideal S1x768x1792 .fp8e4m3) (xs : Vec Ideal S1x768x1 .f32) (w : Vec Ideal S1792x4096 .fp8e4m3)
    (ws : Vec Ideal S4096 .f32) (r : Vec Ideal S1x768x4096 .bf16) (i : Fin 768) (j : Fin 4096) :
    Cert.ReferenceIdeal.Gen.k0_pay1 (F := Ideal) x w xs ws r (ix3 0 i j) = elem x xs w ws r i j := by
  unfold Cert.ReferenceIdeal.Gen.k0_pay1 elem
  pointwise

end Cert.Proof.Spec

end
-- ==== Proof.KernelValue.lean ====
/-
  The value of the kernel over the extended reals: what one grid point writes back, the whole result array after the
  run, and the run's result after the reshape that follows it.
-/
module

public import proofs.«01_k».proof.Proof.Gen.KernelIdeal.Frame
public import proofs.«01_k».proof.Proof.Spec
public import Idealize.ShloMosaic.Lib.Pipeline.Value
public import Idealize.ShloMosaic.Lib.Pointwise
public import Idealize.ShloMosaic.Lib.ValueLayout

@[expose] public section

set_option maxRecDepth 16384

noncomputable section

namespace Cert.Proof.KernelValue

open Idealize.ShloMosaic Idealize.ShloMosaic.TcCoe Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

/-- The block payload at row `i`, column `j`: the row of the left block times the column of the right block, scaled by the
    row's scale and by the column's, plus the residual. -/
theorem pay_apply (x : Vec Ideal S768x1792 .fp8e4m3) (w : Vec Ideal S1792x512 .fp8e4m3) (xs : Vec Ideal S768x1 .f32)
    (ws : Vec Ideal S1x512 .f32) (r : Vec Ideal S768x512 .bf16) (i : Fin 768) (j : Fin 512) :
    k0_pay1 (F := Ideal) x w xs ws r (ix2 i j)
      = ((∑ k : Fin 1792, (x (ix2 i k) : EReal) * (w (ix2 k j) : EReal)) * (xs (ix2 i 0) : EReal)) * (ws (ix2 0 j) : EReal)
        + (r (ix2 i j) : EReal) := by
  unfold k0_pay1
  pointwise

/-- Column `j` of block `t` of the 4096 columns. -/
def col (t : Fin cfg0.N) (j : Fin 512) : Fin 4096 := ⟨t.val * 512 + j.val, by
  have h : t.val < 8 := t.isLt
  have := j.isLt
  omega⟩

theorem index_const : ∀ t : Fin grid0.N, win0_0.index t 0 = 0 ∧ win0_0.index t 1 = 0 ∧ win0_1.index t 0 = 0 ∧ win0_1.index t 1 = 0 := by
  decide +kernel
theorem index_col : ∀ t : Fin grid0.N, (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val) := by
  decide +kernel

/-- Every grid point sees the whole left operand. -/
theorem iblk0_apply (c : Dev nD) (t : Fin cfg0.N) (i : Fin 768) (k : Fin 1792) :
    iblk m c 0 t (ix2 i k) = V m c main_v0 (ix2 i k) := by
  unfold iblk
  show V m c main_v0 _ = V m c main_v0 _
  congr 1
  funext a
  apply Fin.ext
  match a with
  | ⟨0, _⟩ => show win0_0.index t 0 * 768 + 1 * i.val = i.val; rw [(index_const t).1]; omega
  | ⟨1, _⟩ => show win0_0.index t 1 * 1792 + 1 * k.val = k.val; rw [(index_const t).2.1]; omega

/-- Every grid point sees all the row scales. -/
theorem iblk1_apply (c : Dev nD) (t : Fin cfg0.N) (i : Fin 768) (u : Fin 1) :
    iblk m c 1 t (ix2 i u) = V m c main_v1 (ix2 i u) := by
  unfold iblk
  show V m c main_v1 _ = V m c main_v1 _
  congr 1
  funext a
  apply Fin.ext
  match a with
  | ⟨0, _⟩ => show win0_1.index t 0 * 768 + 1 * i.val = i.val; rw [(index_const t).2.2.1]; omega
  | ⟨1, _⟩ => show win0_1.index t 1 * 1 + 1 * u.val = u.val; rw [(index_const t).2.2.2]; omega

/-- Grid point `t` sees column block `t` of the right operand. -/
theorem iblk2_apply (c : Dev nD) (t : Fin cfg0.N) (k : Fin 1792) (j : Fin 512) :
    iblk m c 2 t (ix2 k j) = V m c main_arg2 (ix2 k (col t j)) := by
  unfold iblk
  show V m c main_arg2 _ = V m c main_arg2 _
  congr 1
  funext a
  apply Fin.ext
  match a with
  | ⟨0, _⟩ => show win0_2.index t 0 * 1792 + 1 * k.val = k.val; rw [(index_col t).1.1]; omega
  | ⟨1, _⟩ => show win0_2.index t 1 * 512 + 1 * j.val = t.val * 512 + j.val; rw [(index_col t).1.2]; omega

/-- Grid point `t` sees column block `t` of the column scales. -/
theorem iblk3_apply (c : Dev nD) (t : Fin cfg0.N) (u : Fin 1) (j : Fin 512) :
    iblk m c 3 t (ix2 u j) = V m c main_v2 (ix2 u (col t j)) := by
  unfold iblk
  show V m c main_v2 _ = V m c main_v2 _
  congr 1
  funext a
  apply Fin.ext
  match a with
  | ⟨0, _⟩ => show win0_3.index t 0 * 1 + 1 * u.val = u.val; rw [(index_col t).2.1.1]; omega
  | ⟨1, _⟩ => show win0_3.index t 1 * 512 + 1 * j.val = t.val * 512 + j.val; rw [(index_col t).2.1.2]; omega

/-- Grid point `t` sees column block `t` of the residual. -/
theorem iblk4_apply (c : Dev nD) (t : Fin cfg0.N) (i : Fin 768) (j : Fin 512) :
    iblk m c 4 t (ix2 i j) = V m c main_v3 (ix2 i (col t j)) := by
  unfold iblk
  show V m c main_v3 _ = V m c main_v3 _
  congr 1
  funext a
  apply Fin.ext
  match a with
  | ⟨0, _⟩ => show win0_4.index t 0 * 768 + 1 * i.val = i.val; rw [(index_col t).2.2.1.1]; omega
  | ⟨1, _⟩ => show win0_4.index t 1 * 512 + 1 * j.val = t.val * 512 + j.val; rw [(index_col t).2.2.1.2]; omega

/-! ## The reshapes before the region -/

/-- The left operand enters the region as the argument without its leading unit axis. -/
theorem V_v0_apply (c : Dev nD) (i : Fin 768) (k : Fin 1792) :
    V m c main_v0 (ix2 i k) = m ((c : Thread nD τ).loc main_arg0) (ix3 0 i k) := by
  have e : V m c main_v0 = shapeCast S768x1792 (m ((c : Thread nD τ).loc main_arg0)) shapeCasts_S1x768x1792_S768x1792 := by
    unfold V V0
    simp only [List.flatten_cons, List.flatten_nil, List.append_nil, List.cons_append, List.nil_append]
    after_results
    rfl
  rw [e]
  exact ValueIdx.shapeCast_1ab_ab_apply _ _ i k

/-- The row scales likewise. -/
theorem V_v1_apply (c : Dev nD) (i : Fin 768) (u : Fin 1) :
    V m c main_v1 (ix2 i u) = m ((c : Thread nD τ).loc main_arg1) (ix3 0 i u) := by
  have e : V m c main_v1 = shapeCast S768x1 (m ((c : Thread nD τ).loc main_arg1)) shapeCasts_S1x768x1_S768x1 := by
    unfold V V0
    simp only [List.flatten_cons, List.flatten_nil, List.append_nil, List.cons_append, List.nil_append]
    after_results
    rfl
  rw [e]
  exact ValueIdx.shapeCast_1ab_ab_apply _ _ i u

/-- The column scales enter as one row. -/
theorem V_v2_apply (c : Dev nD) (u : Fin 1) (j : Fin 4096) :
    V m c main_v2 (ix2 u j) = m ((c : Thread nD τ).loc main_arg3) (ix1 j) := by
  have e : V m c main_v2 = shapeCast S1x4096 (m ((c : Thread nD τ).loc main_arg3)) shapeCasts_S4096_S1x4096 := by
    unfold V V0
    simp only [List.flatten_cons, List.flatten_nil, List.append_nil, List.cons_append, List.nil_append]
    after_results
    rfl
  rw [e]
  exact ValueIdx.shapeCast_a_1a_apply _ _ u j

/-- The residual enters without its leading unit axis. -/
theorem V_v3_apply (c : Dev nD) (i : Fin 768) (j : Fin 4096) :
    V m c main_v3 (ix2 i j) = m ((c : Thread nD τ).loc main_arg4) (ix3 0 i j) := by
  have e : V m c main_v3 = shapeCast S768x4096 (m ((c : Thread nD τ).loc main_arg4)) shapeCasts_S1x768x4096_S768x4096 := by
    unfold V V0
    simp only [List.flatten_cons, List.flatten_nil, List.append_nil, List.cons_append, List.nil_append]
    after_results
    rfl
  rw [e]
  exact ValueIdx.shapeCast_1ab_ab_apply _ _ i j

/-! ## The result array -/

/-- Row `i`, column `j` of the result, of device `c`'s arguments. -/
abbrev res (c : Dev nD) (i : Fin 768) (j : Fin 4096) : EReal :=
  Cert.Proof.Spec.elem (m ((c : Thread nD τ).loc main_arg0)) (m ((c : Thread nD τ).loc main_arg1))
    (m ((c : Thread nD τ).loc main_arg2)) (m ((c : Thread nD τ).loc main_arg3)) (m ((c : Thread nD τ).loc main_arg4)) i j

/-- The region's result array as one function of the arguments. -/
def G (c : Dev nD) : Buf (Elt Ideal) ((c : Thread nD τ).loc main_v4) := fun idx => res m c (idx 0) (idx 1)

theorem hz2 : (![0, 0] : Fin 2 → Nat) = fun _ => 0 := funext fun a => by fin_cases a <;> rfl

/-- What grid point `t` leaves in the result's staging buffer, at row `i` and column `j`. -/
theorem after_apply (c : Dev nD) (t : Fin cfg0.N) (i : Fin 768) (j : Fin 512) :
    (dats m 0 c).after 5 t (ix2 i j) = res m c i (col t j) := by
  rw [after0_5]
  unfold out0_5
  rw [View.canon_unit_zero hz2, View.ld_unit_zero hz2, View.ld_unit_zero hz2, View.ld_unit_zero hz2, View.ld_unit_zero hz2,
    View.ld_unit_zero hz2]
  refine (pay_apply _ _ _ _ _ i j).trans ?_
  unfold res Cert.Proof.Spec.elem
  rw [iblk1_apply, iblk3_apply, iblk4_apply, V_v1_apply, V_v2_apply, V_v3_apply]
  congr 3
  refine Finset.sum_congr rfl fun k _ => ?_
  rw [iblk0_apply, iblk2_apply, V_v0_apply, V_main_arg2]

/-- Row `i`, column `j` of block `t` of the result array is row `i`, column `t * 512 + j`. -/
theorem emb5 (t : Fin cfg0.N) (i : Fin 768) (j : Fin 512) : (win0_5.blk t).view.emb (ix2 i j) = ix2 i (col t j) := by
  funext a
  apply Fin.ext
  match a with
  | ⟨0, _⟩ => show win0_5.index t 0 * 768 + 1 * i.val = i.val; rw [(index_col t).2.2.2.1]; omega
  | ⟨1, _⟩ => show win0_5.index t 1 * 512 + 1 * j.val = t.val * 512 + j.val; rw [(index_col t).2.2.2.2]; omega

/-- What grid point `t` writes back is block `t` of `G`. -/
theorem flushed_eq (c : Dev nD) (t : Fin cfg0.N) :
    (dats m 0 c).flushed 5 t = (win0_5.blk t).view.read (Elt Ideal) (G m c) := by
  show (cfg0.win 5).cut (grid0.coords t) ((dats m 0 c).after 5 t) = _
  refine funext fun (y : S768x512.Idx) => ?_
  idx_vars y
  show (dats m 0 c).after 5 t (ix2 y0 y1) = G m c ((win0_5.blk t).view.emb (ix2 y0 y1))
  rw [after_apply, emb5]
  rfl

/-- Block `t` of the result array: all the rows, and 512 columns from column `t * 512` on. -/
theorem ext5 : ∀ t : Fin grid0.N, (win0_5.index t 0 * win0_5.size 0 = 0 ∧ win0_5.xsize (grid0.coords t) 0 = 768)
    ∧ (win0_5.index t 1 * win0_5.size 1 = t.val * 512 ∧ win0_5.xsize (grid0.coords t) 1 = 512) := by
  decide +kernel

/-- An index of the result array is in point `t`'s block when its column is. -/
theorem mem_blk (t : Fin cfg0.N) (i : S768x4096.Idx) :
    i ∈ ((cfg0.win 5).blk t).view.set ↔ t.val * 512 ≤ (i 1 : Nat) ∧ (i 1 : Nat) < t.val * 512 + 512 := by
  show i ∈ ((View.whole main_v4).slice (win0_5.rect t)).set ↔ _
  rw [View.set_slice_whole, Rect.mem_set_unit]
  have h0 : (i 0 : Nat) < 768 := (i 0).isLt
  have e := ext5 t
  refine ⟨fun h => ?_, fun h a => ?_⟩
  · have : win0_5.index t 1 * win0_5.size 1 ≤ (i 1 : Nat)
        ∧ (i 1 : Nat) < win0_5.index t 1 * win0_5.size 1 + win0_5.xsize (grid0.coords t) 1 := h 1
    rw [e.2.1, e.2.2] at this; exact this
  · match a with
    | ⟨0, _⟩ => show win0_5.index t 0 * win0_5.size 0 ≤ (i 0 : Nat)
                  ∧ (i 0 : Nat) < win0_5.index t 0 * win0_5.size 0 + win0_5.xsize (grid0.coords t) 0
                rw [e.1.1, e.1.2]; omega
    | ⟨1, _⟩ => show win0_5.index t 1 * win0_5.size 1 ≤ (i 1 : Nat)
                  ∧ (i 1 : Nat) < win0_5.index t 1 * win0_5.size 1 + win0_5.xsize (grid0.coords t) 1
                rw [e.2.1, e.2.2]; exact h

/-- The eight column blocks tile the result array. -/
theorem cover (i : S768x4096.Idx) :
    ∃ t : Fin cfg0.N, (cfg0.win 5).flush t = true ∧ i ∈ ((cfg0.win 5).blk t).view.set := by
  have h1 : (i 1 : Nat) < 4096 := (i 1).isLt
  have hN : cfg0.N = 8 := N_0
  refine ⟨⟨(i 1 : Nat) / 512, by omega⟩, flush0_5 _, ?_⟩
  rw [mem_blk]
  dsimp only
  omega

/-- So the result array ends holding `G`. -/
theorem final (c : Dev nD) : (dats m 0 c).arrAt 5 cfg0.N = G m c :=
  (dats m 0 c).arrAt_eq_of_cover 5 (G m c) (fun t _ => flushed_eq m c t) cover

/-- After the reshape that follows the region the result has its leading unit axis. -/
theorem tail_v5 (c : Dev nD) :
    Pipeline.afterTail₀ cfgs (dats m) 0 (V0 m) [hostOps1] c main_v5 = fun idx => res m c (idx 1) (idx 2) := by
  have hinj : Function.Injective (Pipeline.arrRef spec0) := by decide
  unfold Pipeline.afterTail₀ hostOps1
  simp only [List.flatten_cons, List.flatten_nil, List.append_nil]
  after_results
  funext idx
  idx_vars idx
  refine (ValueIdx.shapeCast_ab_1ab_apply _ shapeCasts_S768x4096_S1x768x4096 _ _ _).trans ?_
  refine (congrFun ((Pipeline.withArrays_arr spec0 hinj c (V0 m c) _ 5).trans (final m c)) _).trans ?_
  rfl

/-- The kernel's run: every element of the result is `res`, and the arguments are unchanged. -/
theorem run : θ_run defs (onTc (τ := τ) (main (F := Ideal))) ⟨m, fun _ => 0, ρ⟩ fun r => ∀ c : Dev nD,
      r.2.mem ((c : Thread nD τ).loc main_v5) = (fun idx => res m c (idx 1) (idx 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).2 main_v5 (Pipeline.mem_restRefs_of main_v5 (by decide) (by decide))).trans (tail_v5 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.Proof.KernelValue

end
-- ==== Proof.lean ====
/-
  The proof of `Cert.Claim`: the three frames, the identity of the kernel with its idealization, and the equality of the
  kernel's result with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import Idealize.ShloMosaic.Adequacy
public import Idealize.ShloMosaic.Init

@[expose] public section

noncomputable section

namespace Cert.Proof

open Idealize.ShloMosaic Idealize.SL.Sem Cert.Kernel

/-- Over the extended reals the kernel's result and the reference's are equal, element for element: both are
    `Cert.Proof.Spec.elem` of the arguments. -/
theorem algebraic : Cert.algebraic_KernelIdeal_ReferenceIdeal := by
  intro m ρ m' ρ' _ hag
  refine ⟨fun c => fun idx => Cert.Proof.KernelValue.res m c (idx 1) (idx 2), Cert.Proof.KernelValue.run m ρ, ?_⟩
  refine (θ_run _ _ _).mono (fun _ h c => ⟨(h c).1.trans ?_, (h c).2⟩) (Cert.ReferenceIdeal.Value.run (F := Ideal) m' ρ')
  rw [(hag c).1, (hag c).2.1, (hag c).2.2.1, (hag c).2.2.2.1, (hag c).2.2.2.2]
  refine funext fun (j : Cert.ReferenceIdeal.S1x768x4096.Idx) => ?_
  idx_vars j
  obtain rfl : j0 = 0 := Subsingleton.elim _ _
  exact Cert.Proof.Spec.reference_apply _ _ _ _ _ j1 j2

/-- The three frames, the identity of the kernel with its idealization, and the equality with the reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
